-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((3⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32768 : Shape := ⟨2, ![8, 32768]⟩
abbrev S8x8192x256 : Shape := ⟨3, ![8, 8192, 256]⟩
abbrev S2x6x256 : Shape := ⟨3, ![2, 6, 256]⟩
abbrev S1x6x256 : Shape := ⟨3, ![1, 6, 256]⟩
abbrev S6x256 : Shape := ⟨2, ![6, 256]⟩
abbrev S256x6 : Shape := ⟨2, ![256, 6]⟩
abbrev S256x12 : Shape := ⟨2, ![256, 12]⟩
abbrev S8x8192x4 : Shape := ⟨3, ![8, 8192, 4]⟩
abbrev S1x1024x256 : Shape := ⟨3, ![1, 1024, 256]⟩
abbrev S1x8x256 : Shape := ⟨3, ![1, 8, 256]⟩
abbrev S1x1024x4 : Shape := ⟨3, ![1, 1024, 4]⟩
abbrev S1024x256 : Shape := ⟨2, ![1024, 256]⟩
abbrev S1024x12 : Shape := ⟨2, ![1024, 12]⟩
abbrev S1024x6 : Shape := ⟨2, ![1024, 6]⟩
abbrev S1x1x256 : Shape := ⟨3, ![1, 1, 256]⟩
abbrev S1x256 : Shape := ⟨2, ![1, 256]⟩
abbrev S1x12 : Shape := ⟨2, ![1, 12]⟩
abbrev S1x2 : Shape := ⟨2, ![1, 2]⟩
abbrev S1023x2 : Shape := ⟨2, ![1023, 2]⟩
abbrev S1024x2 : Shape := ⟨2, ![1024, 2]⟩
abbrev S1024x4 : Shape := ⟨2, ![1024, 4]⟩
abbrev S1024x1 : Shape := ⟨2, ![1024, 1]⟩
abbrev S1x1 : Shape := ⟨2, ![1, 1]⟩

abbrev nBuf : Space → Nat
  | .hbm => 12
  | .vmem => 7
  | .smem => 0
  | _ => 0

abbrev bufTy : (tb : Table) → Fin (tcTables nBuf tb) → BufTy
  | .hbm, ⟨0, _⟩ => ⟨S8x32768, .f32⟩
  | .hbm, ⟨1, _⟩ => ⟨S8x8192x256, .f32⟩
  | .hbm, ⟨2, _⟩ => ⟨S2x6x256, .f32⟩
  | .hbm, ⟨3, _⟩ => ⟨S1x6x256, .f32⟩
  | .hbm, ⟨4, _⟩ => ⟨S6x256, .f32⟩
  | .hbm, ⟨5, _⟩ => ⟨S256x6, .f32⟩
  | .hbm, ⟨6, _⟩ => ⟨S1x6x256, .f32⟩
  | .hbm, ⟨7, _⟩ => ⟨S6x256, .f32⟩
  | .hbm, ⟨8, _⟩ => ⟨S256x6, .f32⟩
  | .hbm, ⟨9, _⟩ => ⟨S256x12, .f32⟩
  | .hbm, ⟨10, _⟩ => ⟨S8x8192x4, .f32⟩
  | .hbm, ⟨11, _⟩ => ⟨S8x32768, .f32⟩
  | .local _ .vmem, ⟨0, _⟩ => ⟨S1x1024x256, .f32⟩
  | .local _ .vmem, ⟨1, _⟩ => ⟨S1x1024x256, .f32⟩
  | .local _ .vmem, ⟨2, _⟩ => ⟨S1x8x256, .f32⟩
  | .local _ .vmem, ⟨3, _⟩ => ⟨S1x8x256, .f32⟩
  | .local _ .vmem, ⟨4, _⟩ => ⟨S256x12, .f32⟩
  | .local _ .vmem, ⟨5, _⟩ => ⟨S1x1024x4, .f32⟩
  | .local _ .vmem, ⟨6, _⟩ => ⟨S1x1024x4, .f32⟩
  | _, _ => ⟨S8x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "third" => some ((3⁻¹ : ℝ) : EReal)
  | _ => none
-- ==== ReferenceIdeal.lean ====
abbrev S8x32768 : Shape := ⟨2, ![8, 32768]⟩
abbrev S8x8192x256 : Shape := ⟨3, ![8, 8192, 256]⟩
abbrev S2x6x256 : Shape := ⟨3, ![2, 6, 256]⟩
abbrev S8192 : Shape := ⟨1, ![8192]⟩
abbrev S_ : Shape := ⟨0, ![]⟩
abbrev S6 : Shape := ⟨1, ![6]⟩
abbrev S8192x1 : Shape := ⟨2, ![8192, 1]⟩
abbrev S1x6 : Shape := ⟨2, ![1, 6]⟩
abbrev S8192x6 : Shape := ⟨2, ![8192, 6]⟩
abbrev S49152 : Shape := ⟨1, ![49152]⟩
abbrev S2x6x8x8192 : Shape := ⟨4, ![2, 6, 8, 8192]⟩
abbrev S2x8x8192x6 : Shape := ⟨4, ![2, 8, 8192, 6]⟩
abbrev S2x8x49152 : Shape := ⟨3, ![2, 8, 49152]⟩
abbrev S1x8x49152 : Shape := ⟨3, ![1, 8, 49152]⟩
abbrev S8x49152 : Shape := ⟨2, ![8, 49152]⟩
abbrev S49152x1 : Shape := ⟨2, ![49152, 1]⟩
abbrev S32768 : Shape := ⟨1, ![32768]⟩
abbrev S1x32768 : Shape := ⟨2, ![1, 32768]⟩

abbrev nBuf : Space → Nat
  | .hbm => 74
  | .vmem => 0
  | .smem => 0
  | _ => 0

abbrev bufTy : (tb : Table) → Fin (tcTables nBuf tb) → BufTy
  | .hbm, ⟨0, _⟩ => ⟨S8x32768, .f32⟩
  | .hbm, ⟨1, _⟩ => ⟨S8x8192x256, .f32⟩
  | .hbm, ⟨2, _⟩ => ⟨S2x6x256, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i32⟩
  | .hbm, ⟨7, _⟩ => ⟨S6, .i32⟩
  | .hbm, ⟨8, _⟩ => ⟨S8192x1, .i32⟩
  | .hbm, ⟨9, _⟩ => ⟨S1x6, .i32⟩
  | .hbm, ⟨10, _⟩ => ⟨S8192x6, .i32⟩
  | .hbm, ⟨11, _⟩ => ⟨S8192x6, .i32⟩
  | .hbm, ⟨12, _⟩ => ⟨S8192x6, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8192x6, .i32⟩
  | .hbm, ⟨17, _⟩ => ⟨S8192x6, .i32⟩
  | .hbm, ⟨18, _⟩ => ⟨S_, .i32⟩
  | .hbm, ⟨19, _⟩ => ⟨S8192x6, .i32⟩
  | .hbm, ⟨20, _⟩ => ⟨S8192x6, .i32⟩
  | .hbm, ⟨21, _⟩ => ⟨S49152, .i32⟩
  | .hbm, ⟨22, _⟩ => ⟨S2x6x8x8192, .f32⟩
  | .hbm, ⟨23, _⟩ => ⟨S2x8x8192x6, .f32⟩
  | .hbm, ⟨24, _⟩ => ⟨S2x8x49152, .f32⟩
  | .hbm, ⟨25, _⟩ => ⟨S1x8x49152, .f32⟩
  | .hbm, ⟨26, _⟩ => ⟨S8x49152, .f32⟩
  | .hbm, ⟨27, _⟩ => ⟨S1x8x49152, .f32⟩
  | .hbm, ⟨28, _⟩ => ⟨S8x49152, .f32⟩
  | .hbm, ⟨29, _⟩ => ⟨S8x49152, .f32⟩
  | .hbm, ⟨30, _⟩ => ⟨S8x49152, .f32⟩
  | .hbm, ⟨31, _⟩ => ⟨S_, .f32⟩
  | .hbm, ⟨32, _⟩ => ⟨S8x49152, .f32⟩
  | .hbm, ⟨33, _⟩ => ⟨S8x49152, .f32⟩
  | .hbm, ⟨34, _⟩ => ⟨S_, .f32⟩
  | .hbm, ⟨35, _⟩ => ⟨S8x49152, .f32⟩
  | .hbm, ⟨36, _⟩ => ⟨S8x49152, .f32⟩
  | .hbm, ⟨37, _⟩ => ⟨S8x49152, .f32⟩
  | .hbm, ⟨38, _⟩ => ⟨S_, .f32⟩
  | .hbm, ⟨39, _⟩ => ⟨S8x32768, .f32⟩
  | .hbm, ⟨40, _⟩ => ⟨S_, .i32⟩
  | .hbm, ⟨41, _⟩ => ⟨S49152, .i32⟩
  | .hbm, ⟨42, _⟩ => ⟨S49152, .i1⟩
  | .hbm, ⟨43, _⟩ => ⟨S_, .i32⟩
  | .hbm, ⟨44, _⟩ => ⟨S49152, .i32⟩
  | .hbm, ⟨45, _⟩ => ⟨S49152, .i32⟩
  | .hbm, ⟨46, _⟩ => ⟨S49152, .i32⟩
  | .hbm, ⟨47, _⟩ => ⟨S49152x1, .i32⟩
  | .hbm, ⟨48, _⟩ => ⟨S8x32768, .f32⟩
  | .hbm, ⟨49, _⟩ => ⟨S_, .f32⟩
  | .hbm, ⟨50, _⟩ => ⟨S32768, .f32⟩
  | .hbm, ⟨51, _⟩ => ⟨S_, .i32⟩
  | .hbm, ⟨52, _⟩ => ⟨S49152, .i32⟩
  | .hbm, ⟨53, _⟩ => ⟨S49152, .i1⟩
  | .hbm, ⟨54, _⟩ => ⟨S_, .i32⟩
  | .hbm, ⟨55, _⟩ => ⟨S49152, .i32⟩
  | .hbm, ⟨56, _⟩ => ⟨S49152, .i32⟩
  | .hbm, ⟨57, _⟩ => ⟨S49152, .i32⟩
  | .hbm, ⟨58, _⟩ => ⟨S49152x1, .i32⟩
  | .hbm, ⟨59, _⟩ => ⟨S_, .f32⟩
  | .hbm, ⟨60, _⟩ => ⟨S49152, .f32⟩
  | .hbm, ⟨61, _⟩ => ⟨S32768, .f32⟩
  | .hbm, ⟨62, _⟩ => ⟨S_, .f32⟩
  | .hbm, ⟨63, _⟩ => ⟨S32768, .f32⟩
  | .hbm, ⟨64, _⟩ => ⟨S32768, .f32⟩
  | .hbm, ⟨65, _⟩ => ⟨S1x32768, .f32⟩
  | .hbm, ⟨66, _⟩ => ⟨S8x32768, .f32⟩
  | .hbm, ⟨67, _⟩ => ⟨S8x32768, .f32⟩
  | .hbm, ⟨68, _⟩ => ⟨S1x32768, .f32⟩
  | .hbm, ⟨69, _⟩ => ⟨S_, .f32⟩
  | .hbm, ⟨70, _⟩ => ⟨S1x32768, .f32⟩
  | .hbm, ⟨71, _⟩ => ⟨S1x32768, .i1⟩
  | .hbm, ⟨72, _⟩ => ⟨S8x32768, .i1⟩
  | .hbm, ⟨73, _⟩ => ⟨S8x32768, .f32⟩
  | _, _ => ⟨S8x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_call1_v0 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Proof.KernelRun.lean ====
/- What the kernel program leaves in memory: its result buffer is the reshape of the array the grid wrote, its arguments are
   as launched, and each grid point's block of that array is what the body computed from the point's input blocks. -/
module

public import proofs.«01_k».proof.Proof.Gen.KernelIdeal.Frame
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The array the grid leaves: the output window's array after all points. -/
def grid_out (c : Dev nD) : (⟨S8x8192x4, .f32⟩ : BufTy).Contents (Elt F) := (dats m 0 c).arrAt 3 cfg0.N

/-- Two different windows over one array are the two input windows over the tokens, and both hold what the grid found. -/
theorem shared_arrays (c : Dev nD) : ∀ w w' : Fin cfg0.W, w ≠ w' → Pipeline.arrRef spec0 w = Pipeline.arrRef spec0 w' →
    (dats m 0 c).arrAt w cfg0.N = V0 m c (Proc.devRef .tc (Pipeline.arrRef spec0 w)) := by
  intro w w' hne he
  have hin : (cfg0.win w).isOut = false := by
    revert w w'
    decide
  exact ((dats m 0 c).arrAt_in w hin _).trans (A_eq m c w)

/-- The line after the grid writes the result buffer with the reshape of the array the grid left. -/
theorem tail_result (c : Dev nD) :
    Pipeline.afterTail₀ cfgs (dats m) 0 (V0 m) [hostOps1] c main_v8
      = shapeCast S8x32768 (grid_out m c) shapeCasts_S8x8192x4_S8x32768 := by
  unfold Pipeline.afterTail₀ grid_out
  simp only [List.flatten_cons, List.flatten_nil, List.append_nil]
  unfold hostOps1
  after_results
  rw [show Pipeline.withArrays spec0 c (V0 m c) (fun w => (dats m 0 c).arrAt w cfg0.N) main_v7 = (dats m 0 c).arrAt 3 cfg0.N from
    Pipeline.withArrays_arr_shared spec0 c _ _ (shared_arrays m c) 3]
  rfl

/-- The kernel's run from any memory with zero counters: the result buffer ends as the reshape of the grid's array and the
    three arguments end as launched. -/
theorem run : θ_run defs (onTc (τ := τ) (main (F := F))) ⟨m, fun _ => 0, ρ⟩ fun r => ∀ c : Dev nD,
      r.2.mem ((c : Thread nD τ).loc main_v8) = shapeCast S8x32768 (grid_out m c) shapeCasts_S8x8192x4_S8x32768
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v8 (Pipeline.mem_restRefs_of main_v8 (by decide) (by decide))).trans (tail_result m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

/-! ## One block of the grid's array -/

/-- Two grid points write different blocks. -/
theorem block_injective : ∀ t t' : Fin cfg0.N, win0_3.index t = win0_3.index t' → t = t' :=
  (by decide +kernel : ∀ t t' : Fin grid0.N, win0_3.index t = win0_3.index t' → t = t')

/-- Point `t`'s block of the grid's array is the body's result on the point's three input blocks. -/
theorem block_read (c : Dev nD) (t : Fin cfg0.N) :
    ((cfg0.win 3).blk t).view.read (Elt F) (grid_out m c)
      = (cfg0.win 3).cut (grid0.coords t) (out0_3 (grid0.coords t) (iblk m c 0 t) (iblk m c 1 t) (iblk m c 2 t)) := by
  have h : (dats m 0 c).flushed 3 t
      = (cfg0.win 3).cut (grid0.coords t) (out0_3 (grid0.coords t) (iblk m c 0 t) (iblk m c 1 t) (iblk m c 2 t)) := by
    show (cfg0.win 3).cut (grid0.coords t) ((dats m 0 c).after 3 t) = _
    rw [after0_3]
  rw [← h]
  exact (dats m 0 c).read_blk_arrAt_eq_flushed 3
    (fun s s' _ _ hne => (cfg0.win 3).disjoint_blk fun e => hne (block_injective s s' e)) cfg0.N t t.isLt (flush0_3 t)

end Cert.KernelIdeal.Hand

end
-- ==== Proof.Fold.lean ====
/- The mathematics of the overlap-add, with no program in it: 8192 tokens of six taps each, tap `p` of token `t` landing at
   position `4 t + p` of a line of 32768 (past the end: at the last position), each position then divided by the number of
   taps that landed there. The sums and the counts are put in closed form, position by position. -/
module

public import Idealize.ShloMosaic.PureOps.Ideal
public import Idealize.ShloMosaic.PureOps.Ideal.Laws
public import Idealize.ShloMosaic.Lib.IdealHost

@[expose] public section

noncomputable section

namespace Cert.Fold

open Idealize.ShloMosaic

/-- Where flat tap `n` (tap `n % 6` of token `n / 6`) lands. -/
def pos (n : Fin 49152) : ℕ := min 32767 (4 * (n.val / 6) + n.val % 6)

/-- The taps of one batch with token features `x`, under weights `w` (gates `w 0`, values `w 1`): tap `p` of token `t` is its
    value projection times the logistic of its gate projection. -/
def taps (x : Fin 8192 → Fin 256 → EReal) (w : Fin 2 → Fin 6 → Fin 256 → EReal) : Fin 8192 → Fin 6 → EReal := fun t p =>
  (∑ k : Fin 256, x t k * w 1 p k) * Ideal.logistic (∑ k : Fin 256, x t k * w 0 p k)

/-- A table of taps read at a flat tap number. -/
def flat (y : Fin 8192 → Fin 6 → EReal) (n : Fin 49152) : EReal :=
  y ⟨n.val / 6, by omega⟩ ⟨n.val % 6, by omega⟩

/-- A table of taps read at a flat tap number whose token and tap are known. -/
theorem flat_at (y : Fin 8192 → Fin 6 → EReal) (n : Fin 49152) (t : Fin 8192) (p : Fin 6) (h : n.val = 6 * t.val + p.val) :
    flat y n = y t p := by
  have e1 : (⟨n.val / 6, by omega⟩ : Fin 8192) = t := Fin.ext (by show n.val / 6 = t.val; omega)
  have e2 : (⟨n.val % 6, by omega⟩ : Fin 6) = p := Fin.ext (by show n.val % 6 = p.val; omega)
  unfold flat
  rw [e1, e2]

/-- The sum of the taps that land at position `4 t + c`: two on the first two positions of every token but the first
    (its own and the previous token's tap `4 + c`), three on the very last position, one elsewhere. -/
def folded (y : Fin 8192 → Fin 6 → EReal) (t : Fin 8192) (c : Fin 4) : EReal :=
  if c.val < 2 ∧ 0 < t.val then y t ⟨c.val, by omega⟩ + y ⟨t.val - 1, by omega⟩ ⟨4 + c.val % 2, by omega⟩
  else if t.val = 8191 ∧ c.val = 3 then y t 3 + (y t 4 + y t 5)
  else y t ⟨c.val, by omega⟩

/-- The reciprocal of the number of taps that land at position `4 t + c`. -/
def weight (t : Fin 8192) (c : Fin 4) : EReal :=
  if c.val < 2 ∧ 0 < t.val then ((2⁻¹ : ℝ) : EReal)
  else if t.val = 8191 ∧ c.val = 3 then ((3⁻¹ : ℝ) : EReal)
  else 1

/-- The mean of the taps that land at position `4 t + c`. -/
def mean (y : Fin 8192 → Fin 6 → EReal) (t : Fin 8192) (c : Fin 4) : EReal := folded y t c * weight t c

/-- Summing over the flat taps that land at position `4 t + c` gives the closed form. -/
theorem sum_landing (y : Fin 8192 → Fin 6 → EReal) (t : Fin 8192) (c : Fin 4) :
    ∑ n ∈ Finset.univ.filter (fun n : Fin 49152 => pos n = 4 * t.val + c.val), flat y n = folded y t c := by
  have ht := t.isLt
  have hc := c.isLt
  unfold folded
  split
  · rename_i h
    have e : Finset.univ.filter (fun n : Fin 49152 => pos n = 4 * t.val + c.val)
        = {(⟨6 * t.val + c.val, by omega⟩ : Fin 49152), ⟨6 * (t.val - 1) + (4 + c.val % 2), by omega⟩} := by
      ext n
      have hn := n.isLt
      rw [Finset.mem_filter]
      simp only [Finset.mem_univ, true_and, Finset.mem_insert, Finset.mem_singleton, Fin.ext_iff, pos]
      constructor <;> intro <;> omega
    rw [e, Finset.sum_pair (by simp only [ne_eq, Fin.mk.injEq]; omega)]
    rw [flat_at y _ t ⟨c.val, by omega⟩ rfl, flat_at y _ ⟨t.val - 1, by omega⟩ ⟨4 + c.val % 2, by omega⟩ rfl]
  · split
    · rename_i _ h
      have e : Finset.univ.filter (fun n : Fin 49152 => pos n = 4 * t.val + c.val)
          = {(⟨6 * t.val + 3, by omega⟩ : Fin 49152), ⟨6 * t.val + 4, by omega⟩, ⟨6 * t.val + 5, by omega⟩} := by
        ext n
        have hn := n.isLt
        rw [Finset.mem_filter]
        simp only [Finset.mem_univ, true_and, Finset.mem_insert, Finset.mem_singleton, Fin.ext_iff, pos]
        constructor <;> intro <;> omega
      rw [e, Finset.sum_insert (by simp only [Finset.mem_insert, Finset.mem_singleton, Fin.mk.injEq]; omega),
        Finset.sum_pair (by simp only [ne_eq, Fin.mk.injEq]; omega)]
      rw [flat_at y _ t 3 rfl, flat_at y _ t 4 rfl, flat_at y _ t 5 rfl]
    · have e : Finset.univ.filter (fun n : Fin 49152 => pos n = 4 * t.val + c.val)
          = {(⟨6 * t.val + c.val, by omega⟩ : Fin 49152)} := by
        ext n
        have hn := n.isLt
        rw [Finset.mem_filter]
        simp only [Finset.mem_univ, true_and, Finset.mem_singleton, Fin.ext_iff, pos]
        constructor <;> intro <;> omega
      rw [e, Finset.sum_singleton, flat_at y _ t ⟨c.val, by omega⟩ rfl]

/-- The number of flat taps that land at position `4 t + c`, counted as a sum of ones. -/
theorem count_landing (t : Fin 8192) (c : Fin 4) :
    ∑ _n ∈ Finset.univ.filter (fun n : Fin 49152 => pos n = 4 * t.val + c.val), (1 : EReal) = folded (fun _ _ => 1) t c :=
  sum_landing (fun _ _ => 1) t c

/-- Some tap lands at every position. -/
theorem count_pos (t : Fin 8192) (c : Fin 4) : 0 < folded (fun _ _ => 1) t c := by
  unfold folded
  have h2 : (0 : EReal) < 1 + 1 := by norm_num
  have h3 : (0 : EReal) < 1 + (1 + 1) := by norm_num
  split
  · exact h2
  · split
    · exact h3
    · exact zero_lt_one

/-- Dividing the sum at a position by the larger of its count and one is the mean. -/
theorem div_count (y : Fin 8192 → Fin 6 → EReal) (t : Fin 8192) (c : Fin 4) :
    Ideal.div (folded y t c) (max (folded (fun _ _ => 1) t c) 1) = mean y t c := by
  have e2 : max ((1 : EReal) + 1) 1 = ((2 : ℝ) : EReal) := by
    have : ((1 : EReal) + 1) = ((2 : ℝ) : EReal) := by
      rw [show (2 : ℝ) = 1 + 1 by norm_num, EReal.coe_add, EReal.coe_one]
    rw [this]; exact max_eq_left (by rw [← EReal.coe_one]; exact EReal.coe_le_coe_iff.2 (by norm_num))
  have e3 : max ((1 : EReal) + (1 + 1)) 1 = ((3 : ℝ) : EReal) := by
    have : ((1 : EReal) + (1 + 1)) = ((3 : ℝ) : EReal) := by
      rw [show (3 : ℝ) = 1 + (1 + 1) by norm_num, EReal.coe_add, EReal.coe_add, EReal.coe_one]
    rw [this]; exact max_eq_left (by rw [← EReal.coe_one]; exact EReal.coe_le_coe_iff.2 (by norm_num))
  have e1 : max (1 : EReal) 1 = ((1 : ℝ) : EReal) := by rw [max_self, EReal.coe_one]
  unfold mean
  generalize folded y t c = s
  unfold folded weight
  split
  · rw [e2, Ideal.div_coe (by norm_num), one_div]
  · split
    · rw [e3, Ideal.div_coe (by norm_num), one_div]
    · rw [e1, Ideal.div_coe (by norm_num)]; norm_num

end Cert.Fold

end
-- ==== Proof.KernelBody.lean ====
/- The kernel body at one grid point, with the floats read as extended reals: the block it writes holds, at each position, the
   mean of the taps that land there — provided the token block and the row before it hold the taps of the right tokens. -/
module

public import proofs.«01_k».proof.Proof.Gen.KernelIdeal.Frame
public import proofs.«01_k».proof.Proof.Fold
public import Idealize.ShloMosaic.Lib.Pipeline.Value
public import Idealize.ShloMosaic.Lib.Pointwise
public import Idealize.ShloMosaic.Lib.WordCmp
public import Idealize.ShloMosaic.Lib.Tactic.WordOmega

@[expose] public section

set_option maxRecDepth 16384
noncomputable section

namespace Cert.KernelIdeal.Hand

open Cert.KernelIdeal Cert.KernelIdeal.Gen Idealize.ShloMosaic Idealize.ShloMosaic.TcCoe Idealize.SL.Sem

/-- Tap `p` of a token with features `x`, under the two halves of a joined weight matrix: the value half times the
    logistic of the gate half. -/
def tap (x : Fin 256 → EReal) (x2 : Vec Ideal S256x12 .f32) (p : Fin 6) : EReal :=
  (∑ k : Fin 256, x k * x2 (ix2 k ⟨6 + p.val, by omega⟩)) * Ideal.logistic (∑ k : Fin 256, x k * x2 (ix2 k ⟨p.val, by omega⟩))

/-- The body's tap matrix at row `r` and tap `p` is that token's tap. -/
theorem taps_apply (x0 : Vec Ideal S1x1024x256 .f32) (x2 : Vec Ideal S256x12 .f32) (r : Fin 1024) (p : Fin 6) :
    k0_pay3 (View.ld x0 r0_0) (View.ld x2 r0_1) (ix2 r p) = tap (fun k => x0 (ix3 0 r k)) x2 p := by
  unfold tap
  pointwise [k0_pay3, k0_pay2]

/-- The taps 4 and 5, counted from tap 4. -/
theorem late_tap (x : Fin 256 → EReal) (x2 : Vec Ideal S256x12 .f32) (p : ℕ) (h1 : 10 + p < 12) (h2 : 4 + p < 12) (hp : 4 + p < 6) :
    (∑ k : Fin 256, x k * x2 (ix2 k ⟨10 + p, h1⟩)) * Ideal.logistic (∑ k : Fin 256, x k * x2 (ix2 k ⟨4 + p, h2⟩))
      = tap x x2 ⟨4 + p, hp⟩ := by
  have e : (⟨10 + p, h1⟩ : Fin 12) = ⟨6 + (4 + p), by omega⟩ := Fin.ext (by show 10 + p = 6 + (4 + p); omega)
  rw [e]
  rfl

/-- The global row number as the body computes it, in words. -/
theorem row_word (a b : ℕ) :
    IntOp.addi (BitVec.ofNat 32 a) (Scalar.muli (BitVec.ofNat 32 b) 1024#32) = BitVec.ofNat 32 (b * 1024 + a) := by
  show BitVec.ofNat 32 a + BitVec.ofNat 32 b * BitVec.ofNat 32 1024 = _
  rw [← BitVec.ofNat_mul, ← BitVec.ofNat_add, Nat.add_comm]

/-- A select on "this row is not the first", in words, is the choice on the row number. -/
theorem select_late (T : ℕ) (hT : T < 8192) (x y : EReal) :
    Scalar.select (IntOp.cmpi .sgt (BitVec.ofNat 32 T) 0#32) x y = if 0 < T then x else y := by
  rw [show (0#32 : BitVec 32) = BitVec.ofNat 32 0 from rfl, WordCmp.cmpi_sgt_ofNat (by norm_num; omega) (by norm_num),
    WordCmp.select_decide]

/-- A select on "this is the last position of all", in words, is the choice on the row and column numbers. -/
theorem select_last (T p : ℕ) (hT : T < 8192) (hp : p < 4) (x y : EReal) :
    Scalar.select (IntOp.andi (IntOp.cmpi .eq (BitVec.ofNat 32 T) 8191#32) (IntOp.cmpi .eq (BitVec.ofNat 32 p) 3#32)) x y
      = if T = 8191 ∧ p = 3 then x else y := by
  rw [show (8191#32 : BitVec 32) = BitVec.ofNat 32 8191 from rfl, show (3#32 : BitVec 32) = BitVec.ofNat 32 3 from rfl,
    WordCmp.cmpi_eq_ofNat (by norm_num; omega) (by norm_num), WordCmp.cmpi_eq_ofNat (by norm_num; omega) (by norm_num),
    WordCmp.andi_ofBool, ← Bool.decide_and, WordCmp.select_decide]

/-- A select on "two taps land here", in words, is the choice on the row and column numbers. -/
theorem select_double (T p : ℕ) (hT : T < 8192) (hp : p < 4) (x y : EReal) :
    Scalar.select (IntOp.andi (IntOp.cmpi .slt (BitVec.ofNat 32 p) 2#32) (IntOp.cmpi .sgt (BitVec.ofNat 32 T) 0#32)) x y
      = if p < 2 ∧ 0 < T then x else y := by
  rw [show (2#32 : BitVec 32) = BitVec.ofNat 32 2 from rfl, show (0#32 : BitVec 32) = BitVec.ofNat 32 0 from rfl,
    WordCmp.cmpi_sgt_ofNat (by norm_num; omega) (by norm_num), WordCmp.cmpi_slt_ofNat (by norm_num; omega) (by norm_num),
    WordCmp.andi_ofBool, ← Bool.decide_and, WordCmp.select_decide]

/-- The word of one half denotes one half. -/
theorem half_word : Ideal.ofBits .f32 1056964608#32 = ((2⁻¹ : ℝ) : EReal) := by
  simp [Ideal.ofBits, Ideal.ieee, -EReal.coe_mul]
  norm_num

/-- The named constant denotes one third. -/
theorem third_named : (Named.named κ "third" 1051372203#32 : Ideal .f32) = ((3⁻¹ : ℝ) : EReal) :=
  IdealRules.named_const.ideal_named_scalar (φ := .f32) κ "third" 1051372203#32 ((3⁻¹ : ℝ) : EReal) rfl

/-- The body's partly folded block (own taps, plus the previous row's taps 4 and 5 on the first two columns). -/
theorem partial_apply (i : grid0.Coords) (x0 : Vec Ideal S1x1024x256 .f32) (x1 : Vec Ideal S1x8x256 .f32)
    (x2 : Vec Ideal S256x12 .f32) (r : Fin 1024) (p : Fin 4) :
    k0_pay5 i (View.ld x0 r0_0) (View.ld x2 r0_1) (View.ld x1 r0_2) (ix2 r p)
      = if h : p.val < 2 then
          tap (fun k => x0 (ix3 0 r k)) x2 ⟨p.val, by omega⟩
            + (if 0 < (i 1).val * 1024 + r.val then
                (if r.val < 1 then tap (fun k => x1 (ix3 0 7 k)) x2 ⟨4 + p.val, by omega⟩
                 else tap (fun k => x0 (ix3 0 ⟨r.val - 1, by omega⟩ k)) x2 ⟨4 + p.val, by omega⟩)
               else 0)
        else tap (fun k => x0 (ix3 0 r k)) x2 ⟨p.val, by omega⟩ := by
  have hi : (i 1).val < 8 := (i 1).isLt
  have hr := r.isLt
  pointwise [k0_pay5, k0_pay4, k0_pay2]
  refine dite_congr rfl (fun h => ?_) (fun h => ?_)
  · rw [row_word, select_late _ (by omega), taps_apply]
    congr 1
    by_cases h1 : r.val < 1
    · rw [dif_pos h1, if_pos h1]
      exact congrArg (fun z => if 0 < (i 1).val * 1024 + r.val then z else 0) (late_tap (fun k => x1 (ix3 0 7 k)) x2 p.val _ _ (by omega))
    · rw [dif_neg h1, if_neg h1, taps_apply]
  · rw [taps_apply]
    congr 1
    apply Fin.ext
    show 2 + (p.val - 2) = p.val
    omega

/-- The block the body writes, in terms of the taps of its own rows and of the row before them. -/
theorem out_apply (i : grid0.Coords) (x0 : Vec Ideal S1x1024x256 .f32) (x1 : Vec Ideal S1x8x256 .f32)
    (x2 : Vec Ideal S256x12 .f32) (r : Fin 1024) (p : Fin 4) :
    out0_3 i x0 x1 x2 (ix3 0 r p)
      = (k0_pay5 i (View.ld x0 r0_0) (View.ld x2 r0_1) (View.ld x1 r0_2) (ix2 r p)
          + (if (i 1).val * 1024 + r.val = 8191 ∧ p.val = 3 then
              tap (fun k => x0 (ix3 0 1023 k)) x2 4 + tap (fun k => x0 (ix3 0 1023 k)) x2 5 else 0))
        * (if (i 1).val * 1024 + r.val = 8191 ∧ p.val = 3 then ((3⁻¹ : ℝ) : EReal)
           else if p.val < 2 ∧ 0 < (i 1).val * 1024 + r.val then ((2⁻¹ : ℝ) : EReal) else 1) := by
  have hi : (i 1).val < 8 := (i 1).isLt
  have hr := r.isLt
  have hp := p.isLt
  unfold out0_3
  rw [View.canon_unit_zero (by funext a; fin_cases a <;> rfl)]
  pointwise [k0_pay1, k0_pay4, k0_pay6, k0_pay7]
  rw [row_word, select_last _ _ (by omega) hp, select_last _ _ (by omega) hp, select_double _ _ (by omega) hp,
    third_named, half_word]
  have e4 := taps_apply x0 x2 1023 4
  have e5 := taps_apply x0 x2 1023 5
  rw [← e4, ← e5]

/-- The body computes the means: if the block's rows are the tokens from `1024 i` on and (past the first block) the row before
    is the token before them, the block written holds the mean of the taps landing at each of its positions. -/
theorem body_mean (y : Fin 8192 → Fin 6 → EReal) (i : grid0.Coords) (x0 : Vec Ideal S1x1024x256 .f32)
    (x1 : Vec Ideal S1x8x256 .f32) (x2 : Vec Ideal S256x12 .f32)
    (own : ∀ (r : Fin 1024) (t : Fin 8192), t.val = (i 1).val * 1024 + r.val → ∀ p, tap (fun k => x0 (ix3 0 r k)) x2 p = y t p)
    (before : ∀ t : Fin 8192, t.val + 1 = (i 1).val * 1024 → ∀ p, tap (fun k => x1 (ix3 0 7 k)) x2 p = y t p)
    (r : Fin 1024) (p : Fin 4) (t : Fin 8192) (ht : t.val = (i 1).val * 1024 + r.val) :
    out0_3 i x0 x1 x2 (ix3 0 r p) = Fold.mean y t p := by
  have hi : (i 1).val < 8 := (i 1).isLt
  have hr := r.isLt
  have hp := p.isLt
  rw [out_apply, partial_apply, ← ht]
  unfold Fold.mean Fold.folded Fold.weight
  by_cases h2 : p.val < 2
  · rw [dif_pos h2, if_neg (show ¬(t.val = 8191 ∧ p.val = 3) by omega), if_neg (show ¬(t.val = 8191 ∧ p.val = 3) by omega),
      add_zero, own r t ht]
    by_cases h0 : 0 < t.val
    · rw [if_pos h0, if_pos (show p.val < 2 ∧ 0 < t.val from ⟨h2, h0⟩), if_pos (show p.val < 2 ∧ 0 < t.val from ⟨h2, h0⟩),
        if_pos (show p.val < 2 ∧ 0 < t.val from ⟨h2, h0⟩)]
      have e : (⟨4 + p.val % 2, by omega⟩ : Fin 6) = ⟨4 + p.val, by omega⟩ := Fin.ext (by show 4 + p.val % 2 = 4 + p.val; omega)
      rw [e]
      split
      · rw [before ⟨t.val - 1, by omega⟩ (by show t.val - 1 + 1 = _; omega)]
      · rw [own ⟨r.val - 1, by omega⟩ ⟨t.val - 1, by omega⟩ (by show t.val - 1 = _ + (r.val - 1); omega)]
    · have hn : ¬(p.val < 2 ∧ 0 < t.val) := fun h => h0 h.2
      rw [if_neg h0, if_neg hn, if_neg hn, if_neg hn, add_zero, if_neg (by omega), if_neg (by omega)]
  · have hn : ¬(p.val < 2 ∧ 0 < t.val) := fun h => h2 h.1
    rw [dif_neg h2, if_neg hn, if_neg hn, if_neg hn, own r t ht]
    split
    · rename_i h
      have e : (⟨p.val, by omega⟩ : Fin 6) = 3 := Fin.ext h.2
      rw [own 1023 t (by rw [ht]; show _ + r.val = _ + 1023; omega), own 1023 t (by rw [ht]; show _ + r.val = _ + 1023; omega), e]
    · rw [add_zero]

end Cert.KernelIdeal.Hand

end
-- ==== Proof.KernelValue.lean ====
/- The kernel's result in closed form, with the floats read as extended reals: every element of the grid's array is the mean of
   the taps that land at its position, the taps being those of the tokens and the weights the program was launched with. -/
module

public import proofs.«01_k».proof.Proof.KernelRun
public import proofs.«01_k».proof.Proof.KernelBody

@[expose] public section

set_option maxRecDepth 16384
noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The tokens the program was launched with. -/
def tokens (c : Dev nD) : (⟨S8x8192x256, .f32⟩ : BufTy).Contents (Elt Ideal) := m ((c : Thread nD τ).loc main_arg1)

/-- The weights the program was launched with. -/
def weights (c : Dev nD) : (⟨S2x6x256, .f32⟩ : BufTy).Contents (Elt Ideal) := m ((c : Thread nD τ).loc main_arg2)

/-- The joined weight matrix the grid reads: gates in the first six columns, values in the last six. -/
def joined (c : Dev nD) : (⟨S256x12, .f32⟩ : BufTy).Contents (Elt Ideal) := V m c main_v6

/-- The joined matrix, from the weights the program was launched with. -/
theorem joined_eq (c : Dev nD) : joined m c = concatenate S256x12 1
    [⟨S256x6, transpose S256x6 [1, 0] (shapeCast S6x256 (extractStridedSlice S1x6x256 ![0, 0, 0] (weights m c) slices_S2x6x256_S1x6x256_0_0_0) shapeCasts_S1x6x256_S6x256) transposes_S6x256_S256x6_1_0⟩,
     ⟨S256x6, transpose S256x6 [1, 0] (shapeCast S6x256 (extractStridedSlice S1x6x256 ![1, 0, 0] (weights m c) slices_S2x6x256_S1x6x256_1_0_0) shapeCasts_S1x6x256_S6x256) transposes_S6x256_S256x6_1_0⟩]
    concatenates_S256x6_S256x6_S256x12_d1 := by
  unfold joined
  show V0 m c (Proc.devRef .tc main_v6) = _
  unfold V0
  simp only [List.flatten_cons, List.flatten_nil, List.append_nil]
  unfold hostOps0
  after_results
  rfl

/-- A gate column of the joined matrix. -/
theorem joined_gate (c : Dev nD) (k : Fin 256) (p : Fin 6) :
    joined m c (ix2 k (⟨p.val, by omega⟩ : Fin 12)) = weights m c (ix3 0 p k) := by
  have hp := p.isLt
  rw [joined_eq]
  pointwise []

/-- A value column of the joined matrix. -/
theorem joined_value (c : Dev nD) (k : Fin 256) (p : Fin 6) :
    joined m c (ix2 k (⟨6 + p.val, by omega⟩ : Fin 12)) = weights m c (ix3 1 p k) := by
  have hp := p.isLt
  rw [joined_eq]
  pointwise []

/-! ## Where the blocks sit -/

/-- The grid has a point at every pair of coordinates. -/
theorem point_exists : ∀ b q : Fin 8, ∃ t : Fin cfg0.N, (grid0.coords t 0).val = b.val ∧ (grid0.coords t 1).val = q.val :=
  (by decide +kernel : ∀ b q : Fin 8, ∃ t : Fin grid0.N, (grid0.coords t 0).val = b.val ∧ (grid0.coords t 1).val = q.val)

/-- The token block's index at a point. -/
theorem index_tokens : ∀ t : Fin cfg0.N, win0_0.index t 0 = (grid0.coords t 0).val ∧ win0_0.index t 1 = (grid0.coords t 1).val
    ∧ win0_0.index t 2 = 0 :=
  (by decide +kernel : ∀ t : Fin grid0.N, win0_0.index t 0 = (grid0.coords t 0).val ∧ win0_0.index t 1 = (grid0.coords t 1).val
    ∧ win0_0.index t 2 = 0)

/-- The index of the block of eight rows before a point's own. -/
theorem index_before : ∀ t : Fin cfg0.N, win0_1.index t 0 = (grid0.coords t 0).val
    ∧ win0_1.index t 1 = (grid0.coords t 1).val * 128 - 1 ∧ win0_1.index t 2 = 0 :=
  (by decide +kernel : ∀ t : Fin grid0.N, win0_1.index t 0 = (grid0.coords t 0).val
    ∧ win0_1.index t 1 = (grid0.coords t 1).val * 128 - 1 ∧ win0_1.index t 2 = 0)

/-- The joined matrix is one block. -/
theorem index_joined : ∀ t : Fin cfg0.N, win0_2.index t 0 = 0 ∧ win0_2.index t 1 = 0 :=
  (by decide +kernel : ∀ t : Fin grid0.N, win0_2.index t 0 = 0 ∧ win0_2.index t 1 = 0)

/-- The output block's index at a point. -/
theorem index_out : ∀ t : Fin cfg0.N, win0_3.index t 0 = (grid0.coords t 0).val ∧ win0_3.index t 1 = (grid0.coords t 1).val
    ∧ win0_3.index t 2 = 0 :=
  (by decide +kernel : ∀ t : Fin grid0.N, win0_3.index t 0 = (grid0.coords t 0).val ∧ win0_3.index t 1 = (grid0.coords t 1).val
    ∧ win0_3.index t 2 = 0)

/-! ## The blocks at an index -/

/-- Row `r` of a point's token block is token `1024 q + r` of batch `b`, at grid coordinates `(b, q)`. -/
theorem block_tokens (c : Dev nD) (t : Fin cfg0.N) (b : Fin 8) (hb : (grid0.coords t 0).val = b.val) (r : Fin 1024) (T : Fin 8192)
    (hT : T.val = (grid0.coords t 1).val * 1024 + r.val) (k : Fin 256) :
    (iblk m c 0 t : Vec Ideal S1x1024x256 .f32) (ix3 0 r k) = tokens m c (ix3 b T k) := by
  obtain ⟨h0, h1, h2⟩ := index_tokens t
  unfold iblk
  have e : (win0_0.rect t).emb (ix3 0 r k) = ix3 b T k := by
    funext a
    apply Fin.ext
    rw [Pipeline.Window.rect_emb_val win0_0 t]
    fin_cases a
    · show win0_0.index t 0 * 1 + 0 = b.val
      omega
    · show win0_0.index t 1 * 1024 + r.val = T.val
      omega
    · show win0_0.index t 2 * 256 + k.val = k.val
      omega
  show V m c main_arg1 ((win0_0.rect t).emb (ix3 0 r k)) = _
  rw [e, V_main_arg1]
  rfl

/-- Row 7 of a point's block of the rows before is the token before its own first, past the first point of a batch. -/
theorem block_before (c : Dev nD) (t : Fin cfg0.N) (b : Fin 8) (hb : (grid0.coords t 0).val = b.val) (T : Fin 8192)
    (hT : T.val + 1 = (grid0.coords t 1).val * 1024) (k : Fin 256) :
    (iblk m c 1 t : Vec Ideal S1x8x256 .f32) (ix3 0 7 k) = tokens m c (ix3 b T k) := by
  obtain ⟨h0, h1, h2⟩ := index_before t
  unfold iblk
  have e : (win0_1.rect t).emb (ix3 0 7 k) = ix3 b T k := by
    funext a
    apply Fin.ext
    rw [Pipeline.Window.rect_emb_val win0_1 t]
    fin_cases a
    · show win0_1.index t 0 * 1 + 0 = b.val
      omega
    · show win0_1.index t 1 * 8 + 7 = T.val
      omega
    · show win0_1.index t 2 * 256 + k.val = k.val
      omega
  show V m c main_arg1 ((win0_1.rect t).emb (ix3 0 7 k)) = _
  rw [e, V_main_arg1]
  rfl

/-- A point's block of the joined matrix is that matrix. -/
theorem block_joined (c : Dev nD) (t : Fin cfg0.N) (k : Fin 256) (q : Fin 12) :
    (iblk m c 2 t : Vec Ideal S256x12 .f32) (ix2 k q) = joined m c (ix2 k q) := by
  obtain ⟨h0, h1⟩ := index_joined t
  unfold iblk
  have e : (win0_2.rect t).emb (ix2 k q) = ix2 k q := by
    funext a
    apply Fin.ext
    rw [Pipeline.Window.rect_emb_val win0_2 t]
    fin_cases a
    · show win0_2.index t 0 * 256 + k.val = k.val
      omega
    · show win0_2.index t 1 * 12 + q.val = q.val
      omega
  show V m c main_v6 ((win0_2.rect t).emb (ix2 k q)) = _
  rw [e]
  rfl

/-! ## The grid's array at an index -/

/-- The taps of batch `b` of the tokens, under the weights the program was launched with. -/
abbrev launchTaps (c : Dev nD) (b : Fin 8) : Fin 8192 → Fin 6 → EReal :=
  Fold.taps (fun t k => tokens m c (ix3 b t k)) (fun h p k => weights m c (ix3 h p k))

/-- A tap the body computes from a row that is a token is that token's tap. -/
theorem tap_eq (c : Dev nD) (t : Fin cfg0.N) (b : Fin 8) (T : Fin 8192) (x : Fin 256 → EReal)
    (hx : ∀ k, x k = tokens m c (ix3 b T k)) (p : Fin 6) :
    tap x (iblk m c 2 t) p = launchTaps m c b T p := by
  unfold tap launchTaps Fold.taps
  have e1 : ∀ k : Fin 256, x k * (iblk m c 2 t : Vec Ideal S256x12 .f32) (ix2 k ⟨6 + p.val, by omega⟩)
      = tokens m c (ix3 b T k) * weights m c (ix3 1 p k) := fun k => by
    rw [hx, block_joined, joined_value]
  have e0 : ∀ k : Fin 256, x k * (iblk m c 2 t : Vec Ideal S256x12 .f32) (ix2 k ⟨p.val, by omega⟩)
      = tokens m c (ix3 b T k) * weights m c (ix3 0 p k) := fun k => by
    rw [hx, block_joined, joined_gate]
  rw [Finset.sum_congr rfl fun k _ => e1 k, Finset.sum_congr rfl fun k _ => e0 k]

/-- Every element of the grid's array is the mean of the taps that land at its position. -/
theorem grid_out_apply (c : Dev nD) (b : Fin 8) (T : Fin 8192) (p : Fin 4) :
    grid_out m c (ix3 b T p) = Fold.mean (launchTaps m c b) T p := by
  have hTlt := T.isLt
  obtain ⟨t, h0, h1⟩ := point_exists b ⟨T.val / 1024, by omega⟩
  have hq : (grid0.coords t 1).val = T.val / 1024 := h1
  have hr : T.val = (grid0.coords t 1).val * 1024 + (⟨T.val % 1024, by omega⟩ : Fin 1024).val := by
    rw [hq]; show T.val = _ + T.val % 1024; omega
  obtain ⟨i0, i1, i2⟩ := index_out t
  have e : (win0_3.rect t).emb (ix3 0 (⟨T.val % 1024, by omega⟩ : Fin 1024) p) = ix3 b T p := by
    funext a
    apply Fin.ext
    rw [Pipeline.Window.rect_emb_val win0_3 t]
    fin_cases a
    · show win0_3.index t 0 * 1 + 0 = b.val
      omega
    · show win0_3.index t 1 * 1024 + T.val % 1024 = T.val
      omega
    · show win0_3.index t 2 * 4 + p.val = p.val
      omega
  have hread := congrFun (block_read m c t) (ix3 0 (⟨T.val % 1024, by omega⟩ : Fin 1024) p)
  have hb := body_mean (launchTaps m c b) (grid0.coords t) (iblk m c 0 t) (iblk m c 1 t) (iblk m c 2 t)
    (fun r T' h p' => tap_eq m c t b T' _ (fun k => block_tokens m c t b h0 r T' h k) p')
    (fun T' h p' => tap_eq m c t b T' _ (fun k => block_before m c t b h0 T' h k) p')
    ⟨T.val % 1024, by omega⟩ p T hr
  rw [← hb, ← e]
  exact hread

/-- The kernel's result at batch `b` and position `4 T + p`. -/
theorem result_apply (c : Dev nD) (b : Fin 8) (T : Fin 8192) (p : Fin 4) :
    shapeCast S8x32768 (grid_out m c) shapeCasts_S8x8192x4_S8x32768 (ix2 b (⟨4 * T.val + p.val, by omega⟩ : Fin 32768))
      = Fold.mean (launchTaps m c b) T p := by
  rw [← grid_out_apply]
  refine shapeCast_apply _ _ _ _ ?_
  rw [Shape.rowMajor_val_three, Shape.rowMajor_val_two]
  show (b.val * 8192 + T.val) * 4 + p.val = b.val * 32768 + (4 * T.val + p.val)
  omega

end Cert.KernelIdeal.Hand

end
-- ==== Proof.RefScatter.lean ====
/- The reference's two scatter-adds at an index, with the floats read as extended reals: each element is the starting value plus
   the sum of the updates whose index word names its position; and the index table they share, word by word. -/
module

public import proofs.«01_k».proof.Proof.Gen.ReferenceIdeal.Read
public import proofs.«01_k».proof.Proof.Fold
public import Idealize.ShloMosaic.Lib.Routing.OpsPair
public import Idealize.ShloMosaic.Lib.Pointwise
public import Idealize.ShloMosaic.Lib.WordCmp

@[expose] public section

noncomputable section

namespace Cert.ReferenceIdeal.Hand

open Cert.ReferenceIdeal Cert.ReferenceIdeal.Gen Cert.ReferenceIdeal.Read Idealize.ShloMosaic

/-! ## The index table -/

/-- The word of a landing position as the reference computes it — four times the token plus the tap, held between 0 and the
    last position — is the word of that position. -/
theorem position_word (n : Fin 49152) :
    IntOp.minsi 32767#32 (IntOp.maxsi 0#32 (IntOp.addi (IntOp.muli (BitVec.ofNat 32 (n.val / 6)) 4#32) (BitVec.ofNat 32 (n.val % 6))))
      = BitVec.ofNat 32 (Fold.pos n) := by
  have hn := n.isLt
  have e : IntOp.addi (IntOp.muli (BitVec.ofNat 32 (n.val / 6)) 4#32) (BitVec.ofNat 32 (n.val % 6))
      = BitVec.ofNat 32 (4 * (n.val / 6) + n.val % 6) := by
    show BitVec.ofNat 32 (n.val / 6) * BitVec.ofNat 32 4 + BitVec.ofNat 32 (n.val % 6) = _
    rw [← BitVec.ofNat_mul, ← BitVec.ofNat_add, Nat.mul_comm]
  have t : ∀ a : ℕ, a < 2 ^ 31 → (BitVec.ofNat 32 a).toInt = (a : Int) := fun a ha => WordCmp.toInt_ofNat_of_lt ha
  rw [e]
  unfold IntOp.maxsi IntOp.minsi Fold.pos
  have h0 : ¬ (BitVec.ofNat 32 (4 * (n.val / 6) + n.val % 6)).slt 0#32 = true := by
    rw [BitVec.slt_iff_toInt_lt, t _ (by omega), show (0#32 : BitVec 32).toInt = 0 from rfl]
    omega
  rw [if_neg h0]
  by_cases h : 32767 < 4 * (n.val / 6) + n.val % 6
  · rw [if_pos (by rw [BitVec.slt_iff_toInt_lt, show (32767#32 : BitVec 32).toInt = 32767 from rfl, t _ (by omega)]; omega),
      min_eq_left (by omega)]
  · rw [if_neg (by rw [BitVec.slt_iff_toInt_lt, show (32767#32 : BitVec 32).toInt = 32767 from rfl, t _ (by omega)]; omega),
      min_eq_right (by omega)]

/-- The index table before it is wrapped. -/
theorem table_raw (n : Fin 49152) : val_main_v10 (F := Ideal) (ix1 n) = BitVec.ofNat 32 (Fold.pos n) := by
  rw [← position_word, val_main_v10_apply, val_main_v9_apply, val_main_call0_v4_apply, val_main_call0_v3_apply, val_main_c_1_apply,
    val_main_call0_v2_apply, val_main_call0_v1_apply, val_main_call0_v0_apply, val_main_c_0_apply, val_main_v8_apply,
    val_main_v6_apply, val_main_v4_apply, val_main_v2_apply, val_main_v0_apply, val_main_v1_apply, val_main_c_apply,
    val_main_v7_apply, val_main_v5_apply, val_main_v3_apply]
  rfl

/-- A landing position is a position. -/
theorem pos_lt (n : Fin 49152) : Fold.pos n < 32768 := by
  unfold Fold.pos
  omega

/-- A landing position's word is not negative. -/
theorem pos_word_small (n : Fin 49152) : (BitVec.ofNat 32 (Fold.pos n)).toNat < 2 ^ (32 - 1) := by
  have h := pos_lt n
  rw [BitVec.toNat_ofNat, Nat.mod_eq_of_lt (by omega)]
  omega

/-- The first scatter's index word of flat tap `n` is its landing position. -/
theorem table_values (n : Fin 49152) : val_main_v31 (F := Ideal) (ix2 n 0) = BitVec.ofNat 32 (Fold.pos n) := by
  rw [val_main_v31_apply, val_main_v30_apply, val_main_v27_apply, val_main_v26_apply, val_main_c_4_apply]
  have e : idx_main_v31 (ix2 n 0) = ix1 n := by funext a; fin_cases a; rfl
  rw [e, table_raw, Routing.wrap_of_lt _ _ (pos_word_small n)]

/-- The second scatter's index word of flat tap `n` is its landing position. -/
theorem table_counts (n : Fin 49152) : val_main_v39 (F := Ideal) (ix2 n 0) = BitVec.ofNat 32 (Fold.pos n) := by
  rw [val_main_v39_apply, val_main_v38_apply, val_main_v35_apply, val_main_v34_apply, val_main_c_7_apply]
  have e : idx_main_v39 (ix2 n 0) = ix1 n := by funext a; fin_cases a; rfl
  rw [e, table_raw, Routing.wrap_of_lt _ _ (pos_word_small n)]

/-! ## The batched scatter -/

/-- Under a table of landing positions, update `(b', n)` of the batched scatter lands at `(b, j)` exactly when the batches agree
    and flat tap `n` lands at `j`. -/
theorem lands_batched (idx : IVec S49152x1 32) (hidx : ∀ n : Fin 49152, idx (ix2 n 0) = BitVec.ofNat 32 (Fold.pos n))
    (b' : Fin 8) (n : Fin 49152) (b : Fin 8) (j : Fin 32768) :
    scatter_S8x32768_S49152x1_S8x49152_0_1_1_1.resultIdx? (ix2 b' n) idx = some (ix2 b j) ↔ b' = b ∧ Fold.pos n = j.val := by
  have hp := pos_lt n
  have s0 : scatter_S8x32768_S49152x1_S8x49152_0_1_1_1.start (ix2 b' n) idx 0 = 0 := by
    unfold ScatterDims.start
    rw [dif_neg (by decide)]
  have s1 : scatter_S8x32768_S49152x1_S8x49152_0_1_1_1.start (ix2 b' n) idx 1 = (Fold.pos n : Int) := by
    unfold ScatterDims.start
    rw [dif_pos (by decide)]
    have e : ∀ c, scatter_S8x32768_S49152x1_S8x49152_0_1_1_1.siIdx (ix2 b' n) c = ix2 n 0 := by
      intro c
      funext a
      fin_cases a
      · rfl
      · exact Subsingleton.elim (α := Fin 1) _ _
    rw [e, hidx, WordCmp.toInt_ofNat_of_lt (by norm_num; omega)]
  have w0 : scatter_S8x32768_S49152x1_S8x49152_0_1_1_1.window (ix2 b' n) 0 = b'.val := by
    unfold ScatterDims.window
    rw [dif_pos (by decide)]
    rfl
  have w1 : scatter_S8x32768_S49152x1_S8x49152_0_1_1_1.window (ix2 b' n) 1 = 0 := by
    unfold ScatterDims.window
    rw [dif_neg (by decide)]
  rw [Routing.resultIdx?_eq_some]
  constructor
  · intro h
    have h0 : (0 : Int) + (b'.val : Int) = (b.val : Int) := by have := h 0; rwa [s0, w0] at this
    have h1 : (Fold.pos n : Int) + ((0 : ℕ) : Int) = (j.val : Int) := by have := h 1; rwa [s1, w1] at this
    exact ⟨Fin.ext (by omega), by omega⟩
  · rintro ⟨rfl, h⟩ a
    match a with
    | ⟨0, _⟩ =>
      refine (congrArg₂ (fun (x : Int) (y : ℕ) => x + (y : Int)) s0 w0).trans ?_
      show (0 : Int) + (b'.val : Int) = (b'.val : Int)
      omega
    | ⟨1, _⟩ =>
      refine (congrArg₂ (fun (x : Int) (y : ℕ) => x + (y : Int)) s1 w1).trans ?_
      show (Fold.pos n : Int) + ((0 : ℕ) : Int) = (j.val : Int)
      omega

/-- The batched scatter-add at `(b, j)`: the starting value plus the batch's updates that land at `j`. -/
theorem scatter_batched (x : FVec Ideal S8x32768 .f32) (idx : IVec S49152x1 32) (u : FVec Ideal S8x49152 .f32)
    (hidx : ∀ n : Fin 49152, idx (ix2 n 0) = BitVec.ofNat 32 (Fold.pos n)) (b : Fin 8) (j : Fin 32768) :
    Host.scatterAdd (F := Ideal) scatter_S8x32768_S49152x1_S8x49152_0_1_1_1 x idx u (ix2 b j)
      = x (ix2 b j) + ∑ n ∈ Finset.univ.filter (fun n : Fin 49152 => Fold.pos n = j.val), u (ix2 b n) := by
  show Ideal.hostScatterAdd scatter_S8x32768_S49152x1_S8x49152_0_1_1_1 x idx u (ix2 b j) = _
  unfold Ideal.hostScatterAdd
  refine congrArg (x (ix2 b j) + ·) ?_
  symm
  refine Finset.sum_bij (fun n _ => (ix2 b n : S8x49152.Idx)) ?_ ?_ ?_ ?_
  · intro n hn
    rw [Finset.mem_filter] at hn ⊢
    exact ⟨Finset.mem_univ _, (lands_batched idx hidx b n b j).mpr ⟨rfl, hn.2⟩⟩
  · intro n _ n' _ h
    exact congrFun h 1
  · intro k hk
    rw [Finset.mem_filter] at hk
    obtain ⟨k0, k1, rfl⟩ : ∃ (k0 : Fin 8) (k1 : Fin 49152), k = ix2 k0 k1 := ⟨k 0, k 1, by funext a; fin_cases a <;> rfl⟩
    obtain ⟨rfl, h⟩ := (lands_batched idx hidx k0 k1 b j).mp hk.2
    exact ⟨k1, Finset.mem_filter.mpr ⟨Finset.mem_univ _, h⟩, rfl⟩
  · intro n _
    rfl

/-! ## The scatter of the counts -/

/-- Under a table of landing positions, update `n` of the line scatter lands at `j` exactly when flat tap `n` does. -/
theorem lands_line (idx : IVec S49152x1 32) (hidx : ∀ n : Fin 49152, idx (ix2 n 0) = BitVec.ofNat 32 (Fold.pos n))
    (n : Fin 49152) (j : Fin 32768) :
    scatter_S32768_S49152x1_S49152_n_0_0_1.resultIdx? (ix1 n) idx = some (ix1 j) ↔ Fold.pos n = j.val := by
  have hp := pos_lt n
  have s0 : scatter_S32768_S49152x1_S49152_n_0_0_1.start (ix1 n) idx 0 = (Fold.pos n : Int) := by
    unfold ScatterDims.start
    rw [dif_pos (by decide)]
    have e : ∀ c, scatter_S32768_S49152x1_S49152_n_0_0_1.siIdx (ix1 n) c = ix2 n 0 := by
      intro c
      funext a
      fin_cases a
      · rfl
      · exact Subsingleton.elim (α := Fin 1) _ _
    rw [e, hidx, WordCmp.toInt_ofNat_of_lt (by norm_num; omega)]
  have w0 : scatter_S32768_S49152x1_S49152_n_0_0_1.window (ix1 n) 0 = 0 := by
    unfold ScatterDims.window
    rw [dif_neg (by decide)]
  rw [Routing.resultIdx?_eq_some]
  constructor
  · intro h
    have h0 : (Fold.pos n : Int) + ((0 : ℕ) : Int) = (j.val : Int) := by have := h 0; rwa [s0, w0] at this
    omega
  · intro h a
    match a with
    | ⟨0, _⟩ =>
      refine (congrArg₂ (fun (x : Int) (y : ℕ) => x + (y : Int)) s0 w0).trans ?_
      show (Fold.pos n : Int) + ((0 : ℕ) : Int) = (j.val : Int)
      omega

/-- The line scatter-add at `j`: the starting value plus the updates that land at `j`. -/
theorem scatter_line (x : FVec Ideal S32768 .f32) (idx : IVec S49152x1 32) (u : FVec Ideal S49152 .f32)
    (hidx : ∀ n : Fin 49152, idx (ix2 n 0) = BitVec.ofNat 32 (Fold.pos n)) (j : Fin 32768) :
    Host.scatterAdd (F := Ideal) scatter_S32768_S49152x1_S49152_n_0_0_1 x idx u (ix1 j)
      = x (ix1 j) + ∑ n ∈ Finset.univ.filter (fun n : Fin 49152 => Fold.pos n = j.val), u (ix1 n) := by
  show Ideal.hostScatterAdd scatter_S32768_S49152x1_S49152_n_0_0_1 x idx u (ix1 j) = _
  unfold Ideal.hostScatterAdd
  refine congrArg (x (ix1 j) + ·) ?_
  symm
  refine Finset.sum_bij (fun n _ => (ix1 n : S49152.Idx)) ?_ ?_ ?_ ?_
  · intro n hn
    rw [Finset.mem_filter] at hn ⊢
    exact ⟨Finset.mem_univ _, (lands_line idx hidx n j).mpr hn.2⟩
  · intro n _ n' _ h
    exact congrFun h 0
  · intro k hk
    rw [Finset.mem_filter] at hk
    obtain ⟨k0, rfl⟩ : ∃ k0 : Fin 49152, k = ix1 k0 := ⟨k 0, by funext a; fin_cases a; rfl⟩
    exact ⟨k0, Finset.mem_filter.mpr ⟨Finset.mem_univ _, (lands_line idx hidx k0 j).mp hk.2⟩, rfl⟩
  · intro n _
    rfl

end Cert.ReferenceIdeal.Hand

end
-- ==== Proof.RefValue.lean ====
/- The reference's result in closed form, with the floats read as extended reals: every element is the mean of the taps that
   land at its position. -/
module

public import proofs.«01_k».proof.Proof.RefScatter

@[expose] public section

noncomputable section

namespace Cert.ReferenceIdeal.Hand

open Cert.ReferenceIdeal Cert.ReferenceIdeal.Gen Cert.ReferenceIdeal.Read Idealize.ShloMosaic

variable (x0 : (⟨S8x32768, .f32⟩ : BufTy).Contents (Elt Ideal))
variable (x1 : (⟨S8x8192x256, .f32⟩ : BufTy).Contents (Elt Ideal)) (x2 : (⟨S2x6x256, .f32⟩ : BufTy).Contents (Elt Ideal))

/-- The taps of batch `b` of the tokens `x1` under the weights `x2`. -/
abbrev refTaps (b : Fin 8) : Fin 8192 → Fin 6 → EReal :=
  Fold.taps (fun t k => x1 (ix3 b t k)) (fun h p k => x2 (ix3 h p k))

/-- The gate projection of flat tap `n` of batch `b`. -/
theorem gate_apply (b : Fin 8) (n : Fin 49152) :
    val_main_v15 (F := Ideal) x1 x2 (ix2 b n)
      = ∑ k : Fin 256, x1 (ix3 b ⟨n.val / 6, by omega⟩ k) * x2 (ix3 0 ⟨n.val % 6, by omega⟩ k) := by
  have hb := b.isLt
  have hn := n.isLt
  rw [val_main_v15_apply, val_main_v14_apply, val_main_v13_apply, val_main_v12_apply, val_main_v11_apply]
  refine Finset.sum_congr rfl fun k _ => ?_
  rw [mul_comm]
  congr 2
  · funext a
    apply Fin.ext
    fin_cases a
    · show (((0 * 8 + (b.val * 49152 + n.val) / 49152 % 8) * 49152 + (b.val * 49152 + n.val) % 49152) / 49152 % 8) = b.val
      omega
    · show (((0 * 8 + (b.val * 49152 + n.val) / 49152 % 8) * 49152 + (b.val * 49152 + n.val) % 49152) / 6 % 8192) = n.val / 6
      omega
    · rfl
  · funext a
    apply Fin.ext
    fin_cases a
    · show (((0 * 8 + (b.val * 49152 + n.val) / 49152 % 8) * 49152 + (b.val * 49152 + n.val) % 49152) / 393216) = 0
      omega
    · show (((0 * 8 + (b.val * 49152 + n.val) / 49152 % 8) * 49152 + (b.val * 49152 + n.val) % 49152) % 6) = n.val % 6
      omega
    · rfl

/-- The value projection of flat tap `n` of batch `b`. -/
theorem value_apply (b : Fin 8) (n : Fin 49152) :
    val_main_v17 (F := Ideal) x1 x2 (ix2 b n)
      = ∑ k : Fin 256, x1 (ix3 b ⟨n.val / 6, by omega⟩ k) * x2 (ix3 1 ⟨n.val % 6, by omega⟩ k) := by
  have hb := b.isLt
  have hn := n.isLt
  rw [val_main_v17_apply, val_main_v16_apply, val_main_v13_apply, val_main_v12_apply, val_main_v11_apply]
  refine Finset.sum_congr rfl fun k _ => ?_
  rw [mul_comm]
  congr 2
  · funext a
    apply Fin.ext
    fin_cases a
    · show ((((1 + 0) * 8 + (b.val * 49152 + n.val) / 49152 % 8) * 49152 + (b.val * 49152 + n.val) % 49152) / 49152 % 8) = b.val
      omega
    · show ((((1 + 0) * 8 + (b.val * 49152 + n.val) / 49152 % 8) * 49152 + (b.val * 49152 + n.val) % 49152) / 6 % 8192) = n.val / 6
      omega
    · rfl
  · funext a
    apply Fin.ext
    fin_cases a
    · show ((((1 + 0) * 8 + (b.val * 49152 + n.val) / 49152 % 8) * 49152 + (b.val * 49152 + n.val) % 49152) / 393216) = 1
      omega
    · show ((((1 + 0) * 8 + (b.val * 49152 + n.val) / 49152 % 8) * 49152 + (b.val * 49152 + n.val) % 49152) % 6) = n.val % 6
      omega
    · rfl

/-- The reference's quotient `1 / (1 + exp (-z))` is the logistic function. -/
theorem logistic_quotient (z : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) z)))
      = Ideal.logistic z := by
  rw [Ideal.ofBits_one_f32]
  rfl

/-- The updates the reference scatters are the taps. -/
theorem update_apply (b : Fin 8) (n : Fin 49152) :
    val_main_v24 (F := Ideal) x1 x2 (ix2 b n) = Fold.flat (refTaps x1 x2 b) n := by
  rw [val_main_v24_apply, val_main_v23_apply, val_main_v22_apply, val_main_cst_2_apply, val_main_v21_apply, val_main_v20_apply,
    val_main_cst_apply, val_main_v19_apply, val_main_v18_apply, gate_apply, value_apply]
  exact congrArg (fun z : EReal => (∑ k : Fin 256, x1 (ix3 b ⟨n.val / 6, by omega⟩ k) * x2 (ix3 1 ⟨n.val % 6, by omega⟩ k)) * z)
    (logistic_quotient _)

/-- A scatter's line of starting values is zero. -/
theorem start_values (i : S8x32768.Idx) : val_main_v25 (F := Ideal) i = (0 : EReal) := by
  rw [val_main_v25_apply, val_main_cst_3_apply]
  exact Ideal.ofBits_zero_f32

/-- The other scatter's too. -/
theorem start_counts (i : S32768.Idx) : val_main_v33 (F := Ideal) i = (0 : EReal) := by
  rw [val_main_v33_apply, val_main_cst_6_apply]
  exact Ideal.ofBits_zero_f32

/-- The counted updates are all one. -/
theorem ones_apply (n : Fin 49152) : val_main_v40 (F := Ideal) (ix1 n) = (1 : EReal) := by
  rw [val_main_v40_apply, val_main_cst_9_apply]
  exact Ideal.ofBits_one_f32

/-- The sum of the taps landing at position `4 t + c` of batch `b`. -/
theorem summed_apply (b : Fin 8) (t : Fin 8192) (c : Fin 4) :
    val_main_v32 (F := Ideal) x1 x2 (ix2 b (⟨4 * t.val + c.val, by omega⟩ : Fin 32768)) = Fold.folded (refTaps x1 x2 b) t c := by
  unfold val_main_v32
  rw [scatter_batched _ _ _ table_values, start_values, zero_add, ← Fold.sum_landing]
  exact Finset.sum_congr rfl fun n _ => update_apply x1 x2 b n

/-- The number of taps landing at position `4 t + c`. -/
theorem counted_apply (t : Fin 8192) (c : Fin 4) :
    val_main_v41 (F := Ideal) (ix1 (⟨4 * t.val + c.val, by omega⟩ : Fin 32768)) = Fold.folded (fun _ _ => 1) t c := by
  unfold val_main_v41
  rw [scatter_line _ _ _ table_counts, start_counts, zero_add, ← Fold.count_landing]
  exact Finset.sum_congr rfl fun n _ => ones_apply n

/-- The reference's result at batch `b` and position `4 t + c` is the mean of the taps landing there. -/
theorem result_apply (b : Fin 8) (t : Fin 8192) (c : Fin 4) :
    val_main_v50 (F := Ideal) x0 x1 x2 (ix2 b (⟨4 * t.val + c.val, by omega⟩ : Fin 32768)) = Fold.mean (refTaps x1 x2 b) t c := by
  have e1 : idx_main_v47 (idx_main_call1_v0 (ix2 b (⟨4 * t.val + c.val, by omega⟩ : Fin 32768))) = ix1 ⟨4 * t.val + c.val, by omega⟩ := by
    funext a
    fin_cases a
    rfl
  have e2 : idx_main_v44 (idx_main_v45 (ix2 b (⟨4 * t.val + c.val, by omega⟩ : Fin 32768))) = ix1 ⟨4 * t.val + c.val, by omega⟩ := by
    funext a
    fin_cases a
    rfl
  have hmask : val_main_call1_v0 (F := Ideal) (ix2 b (⟨4 * t.val + c.val, by omega⟩ : Fin 32768)) = 1#1 := by
    rw [val_main_call1_v0_apply, val_main_v49_apply, val_main_v48_apply, val_main_cst_11_apply, val_main_v47_apply, e1, counted_apply]
    show BitVec.ofBool (decide (Ideal.ofBits .f32 0x00000000#32 < Fold.folded (fun _ _ => 1) t c)) = 1#1
    rw [Ideal.ofBits_zero_f32, decide_eq_true (Fold.count_pos t c)]
    rfl
  rw [val_main_v50_apply, hmask, ValueIdx.select_one, val_main_v46_apply, summed_apply, val_main_v45_apply, val_main_v44_apply, e2,
    val_main_v43_apply, val_main_v42_apply, val_main_cst_10_apply, counted_apply]
  show Ideal.div _ (max (Fold.folded (fun _ _ => 1) t c) (Ideal.ofBits .f32 0x3F800000#32)) = _
  rw [Ideal.ofBits_one_f32, Fold.div_count]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read

public import proofs.«01_k».proof.Proof.KernelValue
public import proofs.«01_k».proof.Proof.RefValue
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The reference runs, its arguments end unchanged and, there being no semaphore, every counter ends at zero. -/
theorem reference_frame : Cert.quiescent_ReferenceIdeal := fun m g _ =>
  θ_run_mono (Cert.ReferenceIdeal.Value.run m g) fun r h =>
    ⟨fun c => (h c).2, sem_eq_zero_of_no_sems (by decide) r.2⟩

/-- From equal arguments, the reference's result is the kernel's. -/
theorem results_equal (m : (ℓ : Loc Cert.KernelIdeal.nD Cert.KernelIdeal.τ Cert.KernelIdeal.sig) → Buf (Elt Ideal) ℓ)
    (c : Dev Cert.KernelIdeal.nD) (x0 : (⟨Cert.ReferenceIdeal.S8x32768, .f32⟩ : BufTy).Contents (Elt Ideal)) :
    Cert.ReferenceIdeal.Read.val_main_v50 (F := Ideal) x0 (Cert.KernelIdeal.Hand.tokens m c) (Cert.KernelIdeal.Hand.weights m c)
      = shapeCast Cert.KernelIdeal.S8x32768 (Cert.KernelIdeal.Hand.grid_out m c) Cert.KernelIdeal.Gen.shapeCasts_S8x8192x4_S8x32768 := by
  funext i
  obtain ⟨b, j, rfl⟩ : ∃ (b : Fin 8) (j : Fin 32768), i = ix2 b j := ⟨i 0, i 1, by funext a; fin_cases a <;> rfl⟩
  have hj := j.isLt
  have e : j = (⟨4 * (⟨j.val / 4, by omega⟩ : Fin 8192).val + (⟨j.val % 4, by omega⟩ : Fin 4).val, by
      show 4 * (j.val / 4) + j.val % 4 < 32768; omega⟩ : Fin 32768) :=
    Fin.ext (by show j.val = 4 * (j.val / 4) + j.val % 4; omega)
  rw [e]
  exact (Cert.ReferenceIdeal.Hand.result_apply x0 _ _ b ⟨j.val / 4, by omega⟩ ⟨j.val % 4, by omega⟩).trans
    (Cert.KernelIdeal.Hand.result_apply m c b ⟨j.val / 4, by omega⟩ ⟨j.val % 4, by omega⟩).symm

/-- From memories that agree on the arguments, the kernel and the reference both run and end with the same result. -/
theorem value_claim : Cert.algebraic_KernelIdeal_ReferenceIdeal := by
  intro m g m' g' _ hagree
  refine ⟨fun c => shapeCast Cert.KernelIdeal.S8x32768 (Cert.KernelIdeal.Hand.grid_out m c) Cert.KernelIdeal.Gen.shapeCasts_S8x8192x4_S8x32768,
    Cert.KernelIdeal.Hand.run m g, ?_⟩
  refine θ_run_mono (Cert.ReferenceIdeal.Value.run m' g') fun r h c => ⟨(h c).1.trans ?_, (h c).2⟩
  rw [Cert.ReferenceIdeal.Read.val_main_v50_eq, (hagree c).2.1, (hagree c).2.2]
  exact results_equal m c _

/-- Everything the certificate claims. -/
theorem claim : Cert.Claim :=
  ⟨Cert.Kernel.Gen.facts, Cert.KernelIdeal.Gen.facts, Cert.ReferenceIdeal.Gen.facts,
    fun m g _ => Cert.Kernel.Gen.frame m g,
    fun m g _ => Cert.KernelIdeal.Gen.frame m g,
    reference_frame,
    IdealRules.named_const.statement Cert.KernelIdeal.κ "third" .f32 0x3EAAAAAB#32 ((3⁻¹ : ℝ) : EReal) rfl,
    value_claim⟩

end Cert.Proof

end
